-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x192x224x224 : Shape := ⟨4, ![1, 192, 224, 224]⟩
abbrev S20x192x192 : Shape := ⟨3, ![20, 192, 192]⟩
abbrev S20x192 : Shape := ⟨2, ![20, 192]⟩
abbrev S_ : Shape := ⟨0, ![]⟩

class Facts : Prop where
  bcast_S_S1x192x224x224 : S_.BroadcastsInDim S1x192x224x224 (![] : Fin 0 → Fin S1x192x224x224.rank)
  reducesTo_S1x192x224x224_S_d0_1_2_3 : S1x192x224x224.ReducesTo [0, 1, 2, 3] S_
  h_S_ : 0 < S_.numel
  bcast_S_S20x192x192 : S_.BroadcastsInDim S20x192x192 (![] : Fin 0 → Fin S20x192x192.rank)
  reducesTo_S20x192x192_S_d0_1_2 : S20x192x192.ReducesTo [0, 1, 2] S_
  bcast_S_S20x192 : S_.BroadcastsInDim S20x192 (![] : Fin 0 → Fin S20x192.rank)
  reducesTo_S20x192_S_d0_1 : S20x192.ReducesTo [0, 1] S_

variable [Facts]

def fn {F : FTy → Type} [FloatOps F] (main_arg0 : FVec F S1x192x224x224 .f32) (main_arg1 : FVec F S20x192x192 .f32) (main_arg2 : FVec F S20x192 .f32) (main_arg3 : FVec F S20x192x192 .f32) (main_arg4 : FVec F S20x192 .f32) : IVec S_ 1 :=
  let main_v0 : FVec F S1x192x224x224 .f32 := Host.absf main_arg0
  let main_cst : FVec F S_ .f32 := constant S_ .f32 0x7F800000#32
  let main_v1 : FVec F S1x192x224x224 .f32 := broadcastInDim S1x192x224x224 ![] bcast_S_S1x192x224x224 main_cst
  let main_v2 : IVec S1x192x224x224 1 := cmpf .olt main_v0 main_v1
  let main_c : IVec S_ 1 := constantI S_ 1 1#1
  let main_v3 : IVec S_ 1 := (fun x v => Host.reduce IntOp.andi x v reducesTo_S1x192x224x224_S_d0_1_2_3 h_S_) main_v2 main_c
  let main_v4 : FVec F S20x192x192 .f32 := Host.absf main_arg1
  let main_cst_0 : FVec F S_ .f32 := constant S_ .f32 0x7F800000#32
  let main_v5 : FVec F S20x192x192 .f32 := broadcastInDim S20x192x192 ![] bcast_S_S20x192x192 main_cst_0
  let main_v6 : IVec S20x192x192 1 := cmpf .olt main_v4 main_v5
  let main_c_1 : IVec S_ 1 := constantI S_ 1 1#1
  let main_v7 : IVec S_ 1 := (fun x v => Host.reduce IntOp.andi x v reducesTo_S20x192x192_S_d0_1_2 h_S_) main_v6 main_c_1
  let main_v8 : IVec S_ 1 := andi main_v3 main_v7
  let main_v9 : FVec F S20x192 .f32 := Host.absf main_arg2
  let main_cst_2 : FVec F S_ .f32 := constant S_ .f32 0x7F800000#32
  let main_v10 : FVec F S20x192 .f32 := broadcastInDim S20x192 ![] bcast_S_S20x192 main_cst_2
  let main_v11 : IVec S20x192 1 := cmpf .olt main_v9 main_v10
  let main_c_3 : IVec S_ 1 := constantI S_ 1 1#1
  let main_v12 : IVec S_ 1 := (fun x v => Host.reduce IntOp.andi x v reducesTo_S20x192_S_d0_1 h_S_) main_v11 main_c_3
  let main_v13 : IVec S_ 1 := andi main_v8 main_v12
  main_v13
-- ==== Kernel.lean ====
abbrev S1x192x224x224 : Shape := ⟨4, ![1, 192, 224, 224]⟩
abbrev S20x192x192 : Shape := ⟨3, ![20, 192, 192]⟩
abbrev S20x192 : Shape := ⟨2, ![20, 192]⟩
abbrev S1x192x32x224 : Shape := ⟨4, ![1, 192, 32, 224]⟩
abbrev S192x192 : Shape := ⟨2, ![192, 192]⟩
abbrev S192x1 : Shape := ⟨2, ![192, 1]⟩
abbrev S1x192x192 : Shape := ⟨3, ![1, 192, 192]⟩
abbrev S1x192 : Shape := ⟨2, ![1, 192]⟩
abbrev S192 : Shape := ⟨1, ![192]⟩
abbrev S192x7168 : Shape := ⟨2, ![192, 7168]⟩

abbrev nBuf : Space → Nat
  | .hbm => 6
  | .vmem => 9
  | .smem => 0
  | _ => 0

abbrev bufTy : (tb : Table) → Fin (tcTables nBuf tb) → BufTy
  | .hbm, ⟨0, _⟩ => ⟨S1x192x224x224, .f32⟩
  | .hbm, ⟨1, _⟩ => ⟨S20x192x192, .f32⟩
  | .hbm, ⟨2, _⟩ => ⟨S20x192, .f32⟩
  | .hbm, ⟨3, _⟩ => ⟨S20x192x192, .f32⟩
  | .hbm, ⟨4, _⟩ => ⟨S20x192, .f32⟩
  | .hbm, ⟨5, _⟩ => ⟨S1x192x224x224, .f32⟩
  | .local _ .vmem, ⟨0, _⟩ => ⟨S1x192x32x224, .f32⟩
  | .local _ .vmem, ⟨1, _⟩ => ⟨S1x192x32x224, .f32⟩
  | .local _ .vmem, ⟨2, _⟩ => ⟨S20x192x192, .f32⟩
  | .local _ .vmem, ⟨3, _⟩ => ⟨S20x192, .f32⟩
  | .local _ .vmem, ⟨4, _⟩ => ⟨S1x192x32x224, .f32⟩
  | .local _ .vmem, ⟨5, _⟩ => ⟨S1x192x32x224, .f32⟩
  | .local _ .vmem, ⟨6, _⟩ => ⟨S192x192, .bf16⟩
  | .local _ .vmem, ⟨7, _⟩ => ⟨S192x192, .bf16⟩
  | .local _ .vmem, ⟨8, _⟩ => ⟨S192x1, .f32⟩
  | _, _ => ⟨S1x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1x192x32x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x192x32x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x192x224x224 : Shape := ⟨4, ![1, 192, 224, 224]⟩
abbrev S20x192x192 : Shape := ⟨3, ![20, 192, 192]⟩
abbrev S20x192 : Shape := ⟨2, ![20, 192]⟩
abbrev S0x192x224x224 : Shape := ⟨4, ![0, 192, 224, 224]⟩
abbrev S1x192x192 : Shape := ⟨3, ![1, 192, 192]⟩
abbrev S192x192 : Shape := ⟨2, ![192, 192]⟩
abbrev S192x1x224x224 : Shape := ⟨4, ![192, 1, 224, 224]⟩
abbrev S1x192 : Shape := ⟨2, ![1, 192]⟩
abbrev S192 : Shape := ⟨1, ![192]⟩
abbrev S1x192x1x1 : Shape := ⟨4, ![1, 192, 1, 1]⟩
abbrev S192x0x224x224 : Shape := ⟨4, ![192, 0, 224, 224]⟩

abbrev nBuf : Space → Nat
  | .hbm => 367
  | .vmem => 0
  | .smem => 0
  | _ => 0

abbrev hbmTy0_0 (i : Nat) : BufTy := match i % 128 with
  | 0 => ⟨S1x192x224x224, .f32⟩
  | 1 => ⟨S20x192x192, .f32⟩
  | 2 => ⟨S20x192, .f32⟩
  | 3 => ⟨S20x192x192, .f32⟩
  | 4 => ⟨S20x192, .f32⟩
  | 5 => ⟨S0x192x224x224, .f32⟩
  | 6 => ⟨S1x192x192, .f32⟩
  | 7 => ⟨S192x192, .f32⟩
  | 8 => ⟨S192x1x224x224, .f32⟩
  | 9 => ⟨S1x192x224x224, .f32⟩
  | 10 => ⟨S1x192, .f32⟩
  | 11 => ⟨S192, .f32⟩
  | 12 => ⟨S1x192x1x1, .f32⟩
  | 13 => ⟨S1x192x224x224, .f32⟩
  | 14 => ⟨S1x192x224x224, .f32⟩
  | 15 => ⟨S1x192x192, .f32⟩
  | 16 => ⟨S192x192, .f32⟩
  | 17 => ⟨S192x1x224x224, .f32⟩
  | 18 => ⟨S1x192x224x224, .f32⟩
  | 19 => ⟨S1x192, .f32⟩
  | 20 => ⟨S192, .f32⟩
  | 21 => ⟨S1x192x1x1, .f32⟩
  | 22 => ⟨S1x192x224x224, .f32⟩
  | 23 => ⟨S1x192x224x224, .f32⟩
  | 24 => ⟨S1x192x192, .f32⟩
  | 25 => ⟨S192x192, .f32⟩
  | 26 => ⟨S192x1x224x224, .f32⟩
  | 27 => ⟨S1x192x224x224, .f32⟩
  | 28 => ⟨S1x192, .f32⟩
  | 29 => ⟨S192, .f32⟩
  | 30 => ⟨S1x192x1x1, .f32⟩
  | 31 => ⟨S1x192x224x224, .f32⟩
  | 32 => ⟨S1x192x224x224, .f32⟩
  | 33 => ⟨S1x192x192, .f32⟩
  | 34 => ⟨S192x192, .f32⟩
  | 35 => ⟨S192x1x224x224, .f32⟩
  | 36 => ⟨S1x192x224x224, .f32⟩
  | 37 => ⟨S1x192, .f32⟩
  | 38 => ⟨S192, .f32⟩
  | 39 => ⟨S1x192x1x1, .f32⟩
  | 40 => ⟨S1x192x224x224, .f32⟩
  | 41 => ⟨S1x192x224x224, .f32⟩
  | 42 => ⟨S1x192x192, .f32⟩
  | 43 => ⟨S192x192, .f32⟩
  | 44 => ⟨S192x1x224x224, .f32⟩
  | 45 => ⟨S1x192x224x224, .f32⟩
  | 46 => ⟨S1x192, .f32⟩
  | 47 => ⟨S192, .f32⟩
  | 48 => ⟨S1x192x1x1, .f32⟩
  | 49 => ⟨S1x192x224x224, .f32⟩
  | 50 => ⟨S1x192x224x224, .f32⟩
  | 51 => ⟨S1x192x192, .f32⟩
  | 52 => ⟨S192x192, .f32⟩
  | 53 => ⟨S192x1x224x224, .f32⟩
  | 54 => ⟨S1x192x224x224, .f32⟩
  | 55 => ⟨S1x192, .f32⟩
  | 56 => ⟨S192, .f32⟩
  | 57 => ⟨S1x192x1x1, .f32⟩
  | 58 => ⟨S1x192x224x224, .f32⟩
  | 59 => ⟨S1x192x224x224, .f32⟩
  | 60 => ⟨S1x192x192, .f32⟩
  | 61 => ⟨S192x192, .f32⟩
  | 62 => ⟨S192x1x224x224, .f32⟩
  | 63 => ⟨S1x192x224x224, .f32⟩
  | 64 => ⟨S1x192, .f32⟩
  | 65 => ⟨S192, .f32⟩
  | 66 => ⟨S1x192x1x1, .f32⟩
  | 67 => ⟨S1x192x224x224, .f32⟩
  | 68 => ⟨S1x192x224x224, .f32⟩
  | 69 => ⟨S1x192x192, .f32⟩
  | 70 => ⟨S192x192, .f32⟩
  | 71 => ⟨S192x1x224x224, .f32⟩
  | 72 => ⟨S1x192x224x224, .f32⟩
  | 73 => ⟨S1x192, .f32⟩
  | 74 => ⟨S192, .f32⟩
  | 75 => ⟨S1x192x1x1, .f32⟩
  | 76 => ⟨S1x192x224x224, .f32⟩
  | 77 => ⟨S1x192x224x224, .f32⟩
  | 78 => ⟨S1x192x192, .f32⟩
  | 79 => ⟨S192x192, .f32⟩
  | 80 => ⟨S192x1x224x224, .f32⟩
  | 81 => ⟨S1x192x224x224, .f32⟩
  | 82 => ⟨S1x192, .f32⟩
  | 83 => ⟨S192, .f32⟩
  | 84 => ⟨S1x192x1x1, .f32⟩
  | 85 => ⟨S1x192x224x224, .f32⟩
  | 86 => ⟨S1x192x224x224, .f32⟩
  | 87 => ⟨S1x192x192, .f32⟩
  | 88 => ⟨S192x192, .f32⟩
  | 89 => ⟨S192x1x224x224, .f32⟩
  | 90 => ⟨S1x192x224x224, .f32⟩
  | 91 => ⟨S1x192, .f32⟩
  | 92 => ⟨S192, .f32⟩
  | 93 => ⟨S1x192x1x1, .f32⟩
  | 94 => ⟨S1x192x224x224, .f32⟩
  | 95 => ⟨S1x192x224x224, .f32⟩
  | 96 => ⟨S1x192x192, .f32⟩
  | 97 => ⟨S192x192, .f32⟩
  | 98 => ⟨S192x1x224x224, .f32⟩
  | 99 => ⟨S1x192x224x224, .f32⟩
  | 100 => ⟨S1x192, .f32⟩
  | 101 => ⟨S192, .f32⟩
  | 102 => ⟨S1x192x1x1, .f32⟩
  | 103 => ⟨S1x192x224x224, .f32⟩
  | 104 => ⟨S1x192x224x224, .f32⟩
  | 105 => ⟨S1x192x192, .f32⟩
  | 106 => ⟨S192x192, .f32⟩
  | 107 => ⟨S192x1x224x224, .f32⟩
  | 108 => ⟨S1x192x224x224, .f32⟩
  | 109 => ⟨S1x192, .f32⟩
  | 110 => ⟨S192, .f32⟩
  | 111 => ⟨S1x192x1x1, .f32⟩
  | 112 => ⟨S1x192x224x224, .f32⟩
  | 113 => ⟨S1x192x224x224, .f32⟩
  | 114 => ⟨S1x192x192, .f32⟩
  | 115 => ⟨S192x192, .f32⟩
  | 116 => ⟨S192x1x224x224, .f32⟩
  | 117 => ⟨S1x192x224x224, .f32⟩
  | 118 => ⟨S1x192, .f32⟩
  | 119 => ⟨S192, .f32⟩
  | 120 => ⟨S1x192x1x1, .f32⟩
  | 121 => ⟨S1x192x224x224, .f32⟩
  | 122 => ⟨S1x192x224x224, .f32⟩
  | 123 => ⟨S1x192x192, .f32⟩
  | 124 => ⟨S192x192, .f32⟩
  | 125 => ⟨S192x1x224x224, .f32⟩
  | 126 => ⟨S1x192x224x224, .f32⟩
  | 127 => ⟨S1x192, .f32⟩
  | _ => ⟨S1x192x224x224, .f32⟩

abbrev hbmTy0_1 (i : Nat) : BufTy := match i % 128 with
  | 0 => ⟨S192, .f32⟩
  | 1 => ⟨S1x192x1x1, .f32⟩
  | 2 => ⟨S1x192x224x224, .f32⟩
  | 3 => ⟨S1x192x224x224, .f32⟩
  | 4 => ⟨S1x192x192, .f32⟩
  | 5 => ⟨S192x192, .f32⟩
  | 6 => ⟨S192x1x224x224, .f32⟩
  | 7 => ⟨S1x192x224x224, .f32⟩
  | 8 => ⟨S1x192, .f32⟩
  | 9 => ⟨S192, .f32⟩
  | 10 => ⟨S1x192x1x1, .f32⟩
  | 11 => ⟨S1x192x224x224, .f32⟩
  | 12 => ⟨S1x192x224x224, .f32⟩
  | 13 => ⟨S1x192x192, .f32⟩
  | 14 => ⟨S192x192, .f32⟩
  | 15 => ⟨S192x1x224x224, .f32⟩
  | 16 => ⟨S1x192x224x224, .f32⟩
  | 17 => ⟨S1x192, .f32⟩
  | 18 => ⟨S192, .f32⟩
  | 19 => ⟨S1x192x1x1, .f32⟩
  | 20 => ⟨S1x192x224x224, .f32⟩
  | 21 => ⟨S1x192x224x224, .f32⟩
  | 22 => ⟨S1x192x192, .f32⟩
  | 23 => ⟨S192x192, .f32⟩
  | 24 => ⟨S192x1x224x224, .f32⟩
  | 25 => ⟨S1x192x224x224, .f32⟩
  | 26 => ⟨S1x192, .f32⟩
  | 27 => ⟨S192, .f32⟩
  | 28 => ⟨S1x192x1x1, .f32⟩
  | 29 => ⟨S1x192x224x224, .f32⟩
  | 30 => ⟨S1x192x224x224, .f32⟩
  | 31 => ⟨S1x192x192, .f32⟩
  | 32 => ⟨S192x192, .f32⟩
  | 33 => ⟨S192x1x224x224, .f32⟩
  | 34 => ⟨S1x192x224x224, .f32⟩
  | 35 => ⟨S1x192, .f32⟩
  | 36 => ⟨S192, .f32⟩
  | 37 => ⟨S1x192x1x1, .f32⟩
  | 38 => ⟨S1x192x224x224, .f32⟩
  | 39 => ⟨S1x192x224x224, .f32⟩
  | 40 => ⟨S1x192x192, .f32⟩
  | 41 => ⟨S192x192, .f32⟩
  | 42 => ⟨S192x1x224x224, .f32⟩
  | 43 => ⟨S1x192x224x224, .f32⟩
  | 44 => ⟨S1x192, .f32⟩
  | 45 => ⟨S192, .f32⟩
  | 46 => ⟨S1x192x1x1, .f32⟩
  | 47 => ⟨S1x192x224x224, .f32⟩
  | 48 => ⟨S1x192x224x224, .f32⟩
  | 49 => ⟨S1x192x192, .f32⟩
  | 50 => ⟨S192x192, .f32⟩
  | 51 => ⟨S192x1x224x224, .f32⟩
  | 52 => ⟨S1x192x224x224, .f32⟩
  | 53 => ⟨S1x192, .f32⟩
  | 54 => ⟨S192, .f32⟩
  | 55 => ⟨S1x192x1x1, .f32⟩
  | 56 => ⟨S1x192x224x224, .f32⟩
  | 57 => ⟨S1x192x224x224, .f32⟩
  | 58 => ⟨S1x192x192, .f32⟩
  | 59 => ⟨S192x192, .f32⟩
  | 60 => ⟨S192x0x224x224, .f32⟩
  | 61 => ⟨S0x192x224x224, .f32⟩
  | 62 => ⟨S1x192, .f32⟩
  | 63 => ⟨S192, .f32⟩
  | 64 => ⟨S1x192x1x1, .f32⟩
  | 65 => ⟨S0x192x224x224, .f32⟩
  | 66 => ⟨S0x192x224x224, .f32⟩
  | 67 => ⟨S1x192x192, .f32⟩
  | 68 => ⟨S192x192, .f32⟩
  | 69 => ⟨S192x0x224x224, .f32⟩
  | 70 => ⟨S0x192x224x224, .f32⟩
  | 71 => ⟨S1x192, .f32⟩
  | 72 => ⟨S192, .f32⟩
  | 73 => ⟨S1x192x1x1, .f32⟩
  | 74 => ⟨S0x192x224x224, .f32⟩
  | 75 => ⟨S0x192x224x224, .f32⟩
  | 76 => ⟨S1x192x192, .f32⟩
  | 77 => ⟨S192x192, .f32⟩
  | 78 => ⟨S192x0x224x224, .f32⟩
  | 79 => ⟨S0x192x224x224, .f32⟩
  | 80 => ⟨S1x192, .f32⟩
  | 81 => ⟨S192, .f32⟩
  | 82 => ⟨S1x192x1x1, .f32⟩
  | 83 => ⟨S0x192x224x224, .f32⟩
  | 84 => ⟨S0x192x224x224, .f32⟩
  | 85 => ⟨S1x192x192, .f32⟩
  | 86 => ⟨S192x192, .f32⟩
  | 87 => ⟨S192x0x224x224, .f32⟩
  | 88 => ⟨S0x192x224x224, .f32⟩
  | 89 => ⟨S1x192, .f32⟩
  | 90 => ⟨S192, .f32⟩
  | 91 => ⟨S1x192x1x1, .f32⟩
  | 92 => ⟨S0x192x224x224, .f32⟩
  | 93 => ⟨S0x192x224x224, .f32⟩
  | 94 => ⟨S1x192x192, .f32⟩
  | 95 => ⟨S192x192, .f32⟩
  | 96 => ⟨S192x0x224x224, .f32⟩
  | 97 => ⟨S0x192x224x224, .f32⟩
  | 98 => ⟨S1x192, .f32⟩
  | 99 => ⟨S192, .f32⟩
  | 100 => ⟨S1x192x1x1, .f32⟩
  | 101 => ⟨S0x192x224x224, .f32⟩
  | 102 => ⟨S0x192x224x224, .f32⟩
  | 103 => ⟨S1x192x192, .f32⟩
  | 104 => ⟨S192x192, .f32⟩
  | 105 => ⟨S192x0x224x224, .f32⟩
  | 106 => ⟨S0x192x224x224, .f32⟩
  | 107 => ⟨S1x192, .f32⟩
  | 108 => ⟨S192, .f32⟩
  | 109 => ⟨S1x192x1x1, .f32⟩
  | 110 => ⟨S0x192x224x224, .f32⟩
  | 111 => ⟨S0x192x224x224, .f32⟩
  | 112 => ⟨S1x192x192, .f32⟩
  | 113 => ⟨S192x192, .f32⟩
  | 114 => ⟨S192x0x224x224, .f32⟩
  | 115 => ⟨S0x192x224x224, .f32⟩
  | 116 => ⟨S1x192, .f32⟩
  | 117 => ⟨S192, .f32⟩
  | 118 => ⟨S1x192x1x1, .f32⟩
  | 119 => ⟨S0x192x224x224, .f32⟩
  | 120 => ⟨S0x192x224x224, .f32⟩
  | 121 => ⟨S1x192x192, .f32⟩
  | 122 => ⟨S192x192, .f32⟩
  | 123 => ⟨S192x0x224x224, .f32⟩
  | 124 => ⟨S0x192x224x224, .f32⟩
  | 125 => ⟨S1x192, .f32⟩
  | 126 => ⟨S192, .f32⟩
  | 127 => ⟨S1x192x1x1, .f32⟩
  | _ => ⟨S1x192x224x224, .f32⟩

abbrev hbmTy0_2 (i : Nat) : BufTy := match i % 128 with
  | 0 => ⟨S0x192x224x224, .f32⟩
  | 1 => ⟨S0x192x224x224, .f32⟩
  | 2 => ⟨S1x192x192, .f32⟩
  | 3 => ⟨S192x192, .f32⟩
  | 4 => ⟨S192x0x224x224, .f32⟩
  | 5 => ⟨S0x192x224x224, .f32⟩
  | 6 => ⟨S1x192, .f32⟩
  | 7 => ⟨S192, .f32⟩
  | 8 => ⟨S1x192x1x1, .f32⟩
  | 9 => ⟨S0x192x224x224, .f32⟩
  | 10 => ⟨S0x192x224x224, .f32⟩
  | 11 => ⟨S1x192x192, .f32⟩
  | 12 => ⟨S192x192, .f32⟩
  | 13 => ⟨S192x0x224x224, .f32⟩
  | 14 => ⟨S0x192x224x224, .f32⟩
  | 15 => ⟨S1x192, .f32⟩
  | 16 => ⟨S192, .f32⟩
  | 17 => ⟨S1x192x1x1, .f32⟩
  | 18 => ⟨S0x192x224x224, .f32⟩
  | 19 => ⟨S0x192x224x224, .f32⟩
  | 20 => ⟨S1x192x192, .f32⟩
  | 21 => ⟨S192x192, .f32⟩
  | 22 => ⟨S192x0x224x224, .f32⟩
  | 23 => ⟨S0x192x224x224, .f32⟩
  | 24 => ⟨S1x192, .f32⟩
  | 25 => ⟨S192, .f32⟩
  | 26 => ⟨S1x192x1x1, .f32⟩
  | 27 => ⟨S0x192x224x224, .f32⟩
  | 28 => ⟨S0x192x224x224, .f32⟩
  | 29 => ⟨S1x192x192, .f32⟩
  | 30 => ⟨S192x192, .f32⟩
  | 31 => ⟨S192x0x224x224, .f32⟩
  | 32 => ⟨S0x192x224x224, .f32⟩
  | 33 => ⟨S1x192, .f32⟩
  | 34 => ⟨S192, .f32⟩
  | 35 => ⟨S1x192x1x1, .f32⟩
  | 36 => ⟨S0x192x224x224, .f32⟩
  | 37 => ⟨S0x192x224x224, .f32⟩
  | 38 => ⟨S1x192x192, .f32⟩
  | 39 => ⟨S192x192, .f32⟩
  | 40 => ⟨S192x0x224x224, .f32⟩
  | 41 => ⟨S0x192x224x224, .f32⟩
  | 42 => ⟨S1x192, .f32⟩
  | 43 => ⟨S192, .f32⟩
  | 44 => ⟨S1x192x1x1, .f32⟩
  | 45 => ⟨S0x192x224x224, .f32⟩
  | 46 => ⟨S0x192x224x224, .f32⟩
  | 47 => ⟨S1x192x192, .f32⟩
  | 48 => ⟨S192x192, .f32⟩
  | 49 => ⟨S192x0x224x224, .f32⟩
  | 50 => ⟨S0x192x224x224, .f32⟩
  | 51 => ⟨S1x192, .f32⟩
  | 52 => ⟨S192, .f32⟩
  | 53 => ⟨S1x192x1x1, .f32⟩
  | 54 => ⟨S0x192x224x224, .f32⟩
  | 55 => ⟨S0x192x224x224, .f32⟩
  | 56 => ⟨S1x192x192, .f32⟩
  | 57 => ⟨S192x192, .f32⟩
  | 58 => ⟨S192x0x224x224, .f32⟩
  | 59 => ⟨S0x192x224x224, .f32⟩
  | 60 => ⟨S1x192, .f32⟩
  | 61 => ⟨S192, .f32⟩
  | 62 => ⟨S1x192x1x1, .f32⟩
  | 63 => ⟨S0x192x224x224, .f32⟩
  | 64 => ⟨S0x192x224x224, .f32⟩
  | 65 => ⟨S1x192x192, .f32⟩
  | 66 => ⟨S192x192, .f32⟩
  | 67 => ⟨S192x0x224x224, .f32⟩
  | 68 => ⟨S0x192x224x224, .f32⟩
  | 69 => ⟨S1x192, .f32⟩
  | 70 => ⟨S192, .f32⟩
  | 71 => ⟨S1x192x1x1, .f32⟩
  | 72 => ⟨S0x192x224x224, .f32⟩
  | 73 => ⟨S0x192x224x224, .f32⟩
  | 74 => ⟨S1x192x192, .f32⟩
  | 75 => ⟨S192x192, .f32⟩
  | 76 => ⟨S192x0x224x224, .f32⟩
  | 77 => ⟨S0x192x224x224, .f32⟩
  | 78 => ⟨S1x192, .f32⟩
  | 79 => ⟨S192, .f32⟩
  | 80 => ⟨S1x192x1x1, .f32⟩
  | 81 => ⟨S0x192x224x224, .f32⟩
  | 82 => ⟨S0x192x224x224, .f32⟩
  | 83 => ⟨S1x192x192, .f32⟩
  | 84 => ⟨S192x192, .f32⟩
  | 85 => ⟨S192x0x224x224, .f32⟩
  | 86 => ⟨S0x192x224x224, .f32⟩
  | 87 => ⟨S1x192, .f32⟩
  | 88 => ⟨S192, .f32⟩
  | 89 => ⟨S1x192x1x1, .f32⟩
  | 90 => ⟨S0x192x224x224, .f32⟩
  | 91 => ⟨S0x192x224x224, .f32⟩
  | 92 => ⟨S1x192x192, .f32⟩
  | 93 => ⟨S192x192, .f32⟩
  | 94 => ⟨S192x0x224x224, .f32⟩
  | 95 => ⟨S0x192x224x224, .f32⟩
  | 96 => ⟨S1x192, .f32⟩
  | 97 => ⟨S192, .f32⟩
  | 98 => ⟨S1x192x1x1, .f32⟩
  | 99 => ⟨S0x192x224x224, .f32⟩
  | 100 => ⟨S0x192x224x224, .f32⟩
  | 101 => ⟨S1x192x192, .f32⟩
  | 102 => ⟨S192x192, .f32⟩
  | 103 => ⟨S192x0x224x224, .f32⟩
  | 104 => ⟨S0x192x224x224, .f32⟩
  | 105 => ⟨S1x192, .f32⟩
  | 106 => ⟨S192, .f32⟩
  | 107 => ⟨S1x192x1x1, .f32⟩
  | 108 => ⟨S0x192x224x224, .f32⟩
  | 109 => ⟨S0x192x224x224, .f32⟩
  | 110 => ⟨S1x192x224x224, .f32⟩
  | _ => ⟨S1x192x224x224, .f32⟩

abbrev hbmTy (i : Nat) : BufTy := match i / 128 with
  | 0 => hbmTy0_0 i
  | 1 => hbmTy0_1 i
  | 2 => hbmTy0_2 i
  | _ => ⟨S1x192x224x224, .f32⟩

abbrev bufTy : (tb : Table) → Fin (tcTables nBuf tb) → BufTy
  | .hbm, ⟨i, _⟩ => hbmTy i
  | _, _ => ⟨S1x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_v250 : Ref sig .tc := ⟨.hbm, 255, rfl⟩
abbrev main_v251 : Ref sig .tc := ⟨.hbm, 256, rfl⟩
abbrev main_v252 : Ref sig .tc := ⟨.hbm, 257, rfl⟩
abbrev main_v253 : Ref sig .tc := ⟨.hbm, 258, rfl⟩
abbrev main_v254 : Ref sig .tc := ⟨.hbm, 259, rfl⟩
abbrev main_v255 : Ref sig .tc := ⟨.hbm, 260, rfl⟩
abbrev main_v256 : Ref sig .tc := ⟨.hbm, 261, rfl⟩
abbrev main_v257 : Ref sig .tc := ⟨.hbm, 262, rfl⟩
abbrev main_v258 : Ref sig .tc := ⟨.hbm, 263, rfl⟩
abbrev main_v259 : Ref sig .tc := ⟨.hbm, 264, rfl⟩
abbrev main_v260 : Ref sig .tc := ⟨.hbm, 265, rfl⟩
abbrev main_v261 : Ref sig .tc := ⟨.hbm, 266, rfl⟩
abbrev main_v262 : Ref sig .tc := ⟨.hbm, 267, rfl⟩
abbrev main_v263 : Ref sig .tc := ⟨.hbm, 268, rfl⟩
abbrev main_v264 : Ref sig .tc := ⟨.hbm, 269, rfl⟩
abbrev main_v265 : Ref sig .tc := ⟨.hbm, 270, rfl⟩
abbrev main_v266 : Ref sig .tc := ⟨.hbm, 271, rfl⟩
abbrev main_v267 : Ref sig .tc := ⟨.hbm, 272, rfl⟩
abbrev main_v268 : Ref sig .tc := ⟨.hbm, 273, rfl⟩
abbrev main_v269 : Ref sig .tc := ⟨.hbm, 274, rfl⟩
abbrev main_v270 : Ref sig .tc := ⟨.hbm, 275, rfl⟩
abbrev main_v271 : Ref sig .tc := ⟨.hbm, 276, rfl⟩
abbrev main_v272 : Ref sig .tc := ⟨.hbm, 277, rfl⟩
abbrev main_v273 : Ref sig .tc := ⟨.hbm, 278, rfl⟩
abbrev main_v274 : Ref sig .tc := ⟨.hbm, 279, rfl⟩
abbrev main_v275 : Ref sig .tc := ⟨.hbm, 280, rfl⟩
abbrev main_v276 : Ref sig .tc := ⟨.hbm, 281, rfl⟩
abbrev main_v277 : Ref sig .tc := ⟨.hbm, 282, rfl⟩
abbrev main_v278 : Ref sig .tc := ⟨.hbm, 283, rfl⟩
abbrev main_v279 : Ref sig .tc := ⟨.hbm, 284, rfl⟩
abbrev main_v280 : Ref sig .tc := ⟨.hbm, 285, rfl⟩
abbrev main_v281 : Ref sig .tc := ⟨.hbm, 286, rfl⟩
abbrev main_v282 : Ref sig .tc := ⟨.hbm, 287, rfl⟩
abbrev main_v283 : Ref sig .tc := ⟨.hbm, 288, rfl⟩
abbrev main_v284 : Ref sig .tc := ⟨.hbm, 289, rfl⟩
abbrev main_v285 : Ref sig .tc := ⟨.hbm, 290, rfl⟩
abbrev main_v286 : Ref sig .tc := ⟨.hbm, 291, rfl⟩
abbrev main_v287 : Ref sig .tc := ⟨.hbm, 292, rfl⟩
abbrev main_v288 : Ref sig .tc := ⟨.hbm, 293, rfl⟩
abbrev main_v289 : Ref sig .tc := ⟨.hbm, 294, rfl⟩
abbrev main_v290 : Ref sig .tc := ⟨.hbm, 295, rfl⟩
abbrev main_v291 : Ref sig .tc := ⟨.hbm, 296, rfl⟩
abbrev main_v292 : Ref sig .tc := ⟨.hbm, 297, rfl⟩
abbrev main_v293 : Ref sig .tc := ⟨.hbm, 298, rfl⟩
abbrev main_v294 : Ref sig .tc := ⟨.hbm, 299, rfl⟩
abbrev main_v295 : Ref sig .tc := ⟨.hbm, 300, rfl⟩
abbrev main_v296 : Ref sig .tc := ⟨.hbm, 301, rfl⟩
abbrev main_v297 : Ref sig .tc := ⟨.hbm, 302, rfl⟩
abbrev main_v298 : Ref sig .tc := ⟨.hbm, 303, rfl⟩
abbrev main_v299 : Ref sig .tc := ⟨.hbm, 304, rfl⟩
abbrev main_v300 : Ref sig .tc := ⟨.hbm, 305, rfl⟩
abbrev main_v301 : Ref sig .tc := ⟨.hbm, 306, rfl⟩
abbrev main_v302 : Ref sig .tc := ⟨.hbm, 307, rfl⟩
abbrev main_v303 : Ref sig .tc := ⟨.hbm, 308, rfl⟩
abbrev main_v304 : Ref sig .tc := ⟨.hbm, 309, rfl⟩
abbrev main_v305 : Ref sig .tc := ⟨.hbm, 310, rfl⟩
abbrev main_v306 : Ref sig .tc := ⟨.hbm, 311, rfl⟩
abbrev main_v307 : Ref sig .tc := ⟨.hbm, 312, rfl⟩
abbrev main_v308 : Ref sig .tc := ⟨.hbm, 313, rfl⟩
abbrev main_v309 : Ref sig .tc := ⟨.hbm, 314, rfl⟩
abbrev main_v310 : Ref sig .tc := ⟨.hbm, 315, rfl⟩
abbrev main_v311 : Ref sig .tc := ⟨.hbm, 316, rfl⟩
abbrev main_v312 : Ref sig .tc := ⟨.hbm, 317, rfl⟩
abbrev main_v313 : Ref sig .tc := ⟨.hbm, 318, rfl⟩
abbrev main_v314 : Ref sig .tc := ⟨.hbm, 319, rfl⟩
abbrev main_v315 : Ref sig .tc := ⟨.hbm, 320, rfl⟩
abbrev main_v316 : Ref sig .tc := ⟨.hbm, 321, rfl⟩
abbrev main_v317 : Ref sig .tc := ⟨.hbm, 322, rfl⟩
abbrev main_v318 : Ref sig .tc := ⟨.hbm, 323, rfl⟩
abbrev main_v319 : Ref sig .tc := ⟨.hbm, 324, rfl⟩
abbrev main_v320 : Ref sig .tc := ⟨.hbm, 325, rfl⟩
abbrev main_v321 : Ref sig .tc := ⟨.hbm, 326, rfl⟩
abbrev main_v322 : Ref sig .tc := ⟨.hbm, 327, rfl⟩
abbrev main_v323 : Ref sig .tc := ⟨.hbm, 328, rfl⟩
abbrev main_v324 : Ref sig .tc := ⟨.hbm, 329, rfl⟩
abbrev main_v325 : Ref sig .tc := ⟨.hbm, 330, rfl⟩
abbrev main_v326 : Ref sig .tc := ⟨.hbm, 331, rfl⟩
abbrev main_v327 : Ref sig .tc := ⟨.hbm, 332, rfl⟩
abbrev main_v328 : Ref sig .tc := ⟨.hbm, 333, rfl⟩
abbrev main_v329 : Ref sig .tc := ⟨.hbm, 334, rfl⟩
abbrev main_v330 : Ref sig .tc := ⟨.hbm, 335, rfl⟩
abbrev main_v331 : Ref sig .tc := ⟨.hbm, 336, rfl⟩
abbrev main_v332 : Ref sig .tc := ⟨.hbm, 337, rfl⟩
abbrev main_v333 : Ref sig .tc := ⟨.hbm, 338, rfl⟩
abbrev main_v334 : Ref sig .tc := ⟨.hbm, 339, rfl⟩
abbrev main_v335 : Ref sig .tc := ⟨.hbm, 340, rfl⟩
abbrev main_v336 : Ref sig .tc := ⟨.hbm, 341, rfl⟩
abbrev main_v337 : Ref sig .tc := ⟨.hbm, 342, rfl⟩
abbrev main_v338 : Ref sig .tc := ⟨.hbm, 343, rfl⟩
abbrev main_v339 : Ref sig .tc := ⟨.hbm, 344, rfl⟩
abbrev main_v340 : Ref sig .tc := ⟨.hbm, 345, rfl⟩
abbrev main_v341 : Ref sig .tc := ⟨.hbm, 346, rfl⟩
abbrev main_v342 : Ref sig .tc := ⟨.hbm, 347, rfl⟩
abbrev main_v343 : Ref sig .tc := ⟨.hbm, 348, rfl⟩
abbrev main_v344 : Ref sig .tc := ⟨.hbm, 349, rfl⟩
abbrev main_v345 : Ref sig .tc := ⟨.hbm, 350, rfl⟩
abbrev main_v346 : Ref sig .tc := ⟨.hbm, 351, rfl⟩
abbrev main_v347 : Ref sig .tc := ⟨.hbm, 352, rfl⟩
abbrev main_v348 : Ref sig .tc := ⟨.hbm, 353, rfl⟩
abbrev main_v349 : Ref sig .tc := ⟨.hbm, 354, rfl⟩
abbrev main_v350 : Ref sig .tc := ⟨.hbm, 355, rfl⟩
abbrev main_v351 : Ref sig .tc := ⟨.hbm, 356, rfl⟩
abbrev main_v352 : Ref sig .tc := ⟨.hbm, 357, rfl⟩
abbrev main_v353 : Ref sig .tc := ⟨.hbm, 358, rfl⟩
abbrev main_v354 : Ref sig .tc := ⟨.hbm, 359, rfl⟩
abbrev main_v355 : Ref sig .tc := ⟨.hbm, 360, rfl⟩
abbrev main_v356 : Ref sig .tc := ⟨.hbm, 361, rfl⟩
abbrev main_v357 : Ref sig .tc := ⟨.hbm, 362, rfl⟩
abbrev main_v358 : Ref sig .tc := ⟨.hbm, 363, rfl⟩
abbrev main_v359 : Ref sig .tc := ⟨.hbm, 364, rfl⟩
abbrev main_v360 : Ref sig .tc := ⟨.hbm, 365, rfl⟩
abbrev main_v361 : Ref sig .tc := ⟨.hbm, 366, rfl⟩

abbrev nD : Nat := 1
abbrev τ : Topo := Topo.v7x

variable {F : FTy → Type} [FloatOps F]
-- ==== Proof.Affine.lean ====
/- Affine maps of ℝ^192 as (matrix, column) pairs, the fold of twenty of them along the kernel's binary tree, and arrays of
   extended reals whose entries are the real entries of a matrix. -/
module

public import Idealize.ShloMosaic.Lib.MatmulPlain
public import Idealize.ShloMosaic.Lib.ValueIdx
public import Mathlib.Data.Matrix.Mul
public import Mathlib.Data.EReal.Operations

@[expose] public section

set_option maxRecDepth 16384

noncomputable section

namespace Cert.Fold

open Idealize.ShloMosaic Idealize.ShloMosaic.ValueIdx

/-! ## Affine maps over the reals -/

/-- A square matrix of weights between the 192 channels. -/
abbrev Mat := Matrix (Fin 192) (Fin 192) ℝ
/-- A column of one real per channel. -/
abbrev Col := Matrix (Fin 192) (Fin 1) ℝ
/-- An affine map of the channels: its matrix and its offset column. -/
abbrev Aff := Mat × Col

/-- The value of an affine map at a column. -/
def act (p : Aff) (x : Col) : Col := p.1 * x + p.2

/-- The affine map "first `p`, then `q`". -/
def after (q p : Aff) : Aff := (q.1 * p.1, q.1 * p.2 + q.2)

/-- Composing two affine maps composes their values. -/
theorem act_after (q p : Aff) (x : Col) : act (after q p) x = act q (act p x) := by
  simp only [act, after, Matrix.mul_add, Matrix.mul_assoc, add_assoc]

/-- The first `n` of the affine maps `L 0, L 1, …` applied one after the other. -/
def steps (L : ℕ → Aff) : ℕ → Col → Col
  | 0, x => x
  | n + 1, x => act (L n) (steps L n x)

/-- The `k`-th pair of neighbouring layers, composed. -/
def pair (L : ℕ → Aff) (k : ℕ) : Aff := after (L (2 * k + 1)) (L (2 * k))
/-- The `k`-th four neighbouring layers, composed as two pairs. -/
def quad (L : ℕ → Aff) (k : ℕ) : Aff := after (pair L (2 * k + 1)) (pair L (2 * k))
/-- The `k`-th eight neighbouring layers, composed as two fours. -/
def oct (L : ℕ → Aff) (k : ℕ) : Aff := after (quad L (2 * k + 1)) (quad L (2 * k))
/-- All twenty layers: the last four after the two eights. -/
def tree (L : ℕ → Aff) : Aff := after (quad L 4) (after (oct L 1) (oct L 0))

/-- The tree of products is the twenty layers applied one after the other. -/
theorem act_tree (L : ℕ → Aff) (x : Col) : act (tree L) x = steps L 20 x := by
  simp only [tree, oct, quad, pair, act_after, steps, Nat.reduceMul, Nat.reduceAdd]

/-- The channels of one pixel of the image, as a column. -/
def pixel (X : Fin 192 → Fin 224 → Fin 224 → ℝ) (h w : Fin 224) : Col := fun k _ => X k h w

/-- The image after the first `n` layers. -/
def image (L : ℕ → Aff) (X : Fin 192 → Fin 224 → Fin 224 → ℝ) (n : ℕ) (d : Fin 192) (h w : Fin 224) : ℝ :=
  steps L n (pixel X h w) d 0

/-! ## Arrays holding real matrices -/

/-- Every entry of the array is the matrix's real entry. -/
def IsMat {a b : ℕ} {φ : FTy} (v : FVec Ideal ⟨2, ![a, b]⟩ φ) (M : Matrix (Fin a) (Fin b) ℝ) : Prop :=
  ∀ i j, v (ix2 i j) = ((M i j : ℝ) : EReal)

/-- A finite sum of reals, read among the extended reals, is the sum of the readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section

variable {a b n : ℕ} {φ ψ : FTy}

/-- The sum of two such arrays holds the sum of the matrices. -/
theorem isMat_add {v w : FVec Ideal ⟨2, ![a, b]⟩ φ} {M N : Matrix (Fin a) (Fin b) ℝ} (hv : IsMat v M) (hw : IsMat w N) :
    IsMat (addf v w) (M + N) := fun i j => by
  rw [addf_apply, hv i j, hw i j, Matrix.add_apply, EReal.coe_add]

/-- Their difference holds the difference. -/
theorem isMat_sub {v w : FVec Ideal ⟨2, ![a, b]⟩ φ} {M N : Matrix (Fin a) (Fin b) ℝ} (hv : IsMat v M) (hw : IsMat w N) :
    IsMat (subf v w) (M - N) := fun i j => by
  rw [subf_apply, hv i j, hw i j, Matrix.sub_apply, EReal.coe_sub]

/-- A narrowing change of format keeps the matrix. -/
theorem isMat_truncf {v : FVec Ideal ⟨2, ![a, b]⟩ φ} {M : Matrix (Fin a) (Fin b) ℝ} (h : ψ.bits < φ.bits) (hv : IsMat v M) :
    IsMat (truncf ψ v h : FVec Ideal ⟨2, ![a, b]⟩ ψ) M := hv

/-- A widening change of format keeps the matrix. -/
theorem isMat_extf {v : FVec Ideal ⟨2, ![a, b]⟩ φ} {M : Matrix (Fin a) (Fin b) ℝ} (h : φ.bits < ψ.bits) (hv : IsMat v M) :
    IsMat (extf ψ v h : FVec Ideal ⟨2, ![a, b]⟩ ψ) M := hv

/-- What the narrow format leaves over is the zero matrix: over the reals no rounding happens. -/
theorem isMat_rest {v : FVec Ideal ⟨2, ![a, b]⟩ φ} {M : Matrix (Fin a) (Fin b) ℝ} (h : ψ.bits < φ.bits) (h' : ψ.bits < φ.bits)
    (hv : IsMat v M) : IsMat (truncf ψ (subf v (extf φ (truncf ψ v h) h')) h : FVec Ideal ⟨2, ![a, b]⟩ ψ) 0 := by
  have e := isMat_truncf h (isMat_sub hv (isMat_extf h' (isMat_truncf h hv)))
  rwa [sub_self] at e

/-- The product of two such arrays onto a zero accumulator holds the product of the matrices. -/
theorem isMat_matmul {d : DotDims ⟨2, ![a, n]⟩ ⟨2, ![n, b]⟩ ⟨2, ![a, b]⟩} (hd : d = DotDims.plain a n b)
    (prec : Option ContractPrecision) {v : FVec Ideal ⟨2, ![a, n]⟩ φ} {w : FVec Ideal ⟨2, ![n, b]⟩ ψ}
    {M : Matrix (Fin a) (Fin n) ℝ} {N : Matrix (Fin n) (Fin b) ℝ} (hv : IsMat v M) (hw : IsMat w N) :
    IsMat (matmul d prec v w (constant ⟨2, ![a, b]⟩ .f32 0x00000000#32)) (M * N) := fun i j => by
  subst hd
  refine (Ideal.matmul_plain_apply prec v w _ i j).trans ?_
  rw [constant_apply, Ideal.ofBits_zero_f32, zero_add, Matrix.mul_apply, coe_sum]
  exact Finset.sum_congr rfl fun k _ => by rw [hv i k, hw k j, EReal.coe_mul]

end

end Cert.Fold

end
-- ==== Proof.Payloads.lean ====
/- What the kernel's values are over the reals: each value the body computes from arrays holding real matrices holds the
   matrix that the tree of products says. -/
module

public import proofs.«01_k».proof.Proof.Affine
public import proofs.«01_k».proof.Proof.Gen.KernelIdeal.Skeleton
public import Idealize.ShloMosaic.Lib.Pipeline.ValueKit
public import Idealize.ShloMosaic.Lib.ValueLayout

@[expose] public section

set_option maxRecDepth 16384

noncomputable section

namespace Cert.Fold

open Idealize.ShloMosaic hiding ix1 ix2 ix3 ix4
open Idealize.ShloMosaic.ValueIdx
open Cert.KernelIdeal Cert.KernelIdeal.Gen

/-! ## The two merges -/

section

variable {p q : Aff}

/-- A product of two matrices in the split form (high by high, high by low, low by high) is the product: the low parts
    are zero over the reals. -/
theorem merge_mat {a b : FVec Ideal S192x192 .f32} (ha : IsMat a p.1) (hb : IsMat b q.1) :
    IsMat (k0_pay49 (F := Ideal) a b) (after q p).1 := by
  have h := isMat_add (isMat_add
      (isMat_matmul (d := dot_S192x192_S192x192_S192x192_1_0_0_1_n_n) rfl none (isMat_truncf bitsLt_bf16_f32 hb) (isMat_truncf bitsLt_bf16_f32 ha))
      (isMat_matmul (d := dot_S192x192_S192x192_S192x192_1_0_0_1_n_n) rfl none (isMat_truncf bitsLt_bf16_f32 hb) (isMat_rest bitsLt_bf16_f32 bitsLt_bf16_f32 ha)))
      (isMat_matmul (d := dot_S192x192_S192x192_S192x192_1_0_0_1_n_n) rfl none (isMat_rest bitsLt_bf16_f32 bitsLt_bf16_f32 hb) (isMat_truncf bitsLt_bf16_f32 ha))
  rw [Matrix.mul_zero, Matrix.zero_mul, add_zero, add_zero] at h
  exact h

/-- The offset of the composition: the later matrix by the earlier offset, plus the later offset. -/
theorem merge_col {c d : FVec Ideal S192x1 .f32} {b : FVec Ideal S192x192 .f32} (hc : IsMat c p.2) (hb : IsMat b q.1)
    (hd : IsMat d q.2) : IsMat (k0_pay50 (F := Ideal) c b d) (after q p).2 :=
  isMat_add (isMat_matmul (d := dot_S192x192_S192x1_S192x1_1_0_0_1_n_n) rfl none (isMat_truncf bitsLt_bf16_f32 hb)
    (isMat_truncf bitsLt_bf16_f32 hc)) hd

/-! ## The leaves -/

/-- Two neighbouring layers' matrices, multiplied. -/
theorem pair_mat {v w : FVec Ideal S192x192 .bf16} (hv : IsMat v p.1) (hw : IsMat w q.1) :
    IsMat (k0_pay28 (F := Ideal) v w) (after q p).1 :=
  isMat_matmul (d := dot_S192x192_S192x192_S192x192_1_0_0_1_n_n) rfl none hw hv

/-- A layer's offset, loaded as one row, as a column. -/
theorem isMat_col {r : Vec Ideal S1x192 .f32} {C : Col} (hr : ∀ i, r (ix2 (0 : Fin 1) i) = ((C i 0 : ℝ) : EReal)) :
    IsMat (φ := .f32) (shapeCast S192x1 (shapeCast S192 r shapeCasts_S1x192_S192) shapeCasts_S192_S192x1) C := fun i j => by
  obtain rfl : j = 0 := Subsingleton.elim _ _
  rw [shapeCast_apply _ shapeCasts_S192_S192x1 (ix2 i (0 : Fin 1)) (ix1 i) (by
    rw [Shape.rowMajor_val_one, Shape.rowMajor_val_two]
    show i.val = i.val * 1 + 0
    omega)]
  exact (shapeCast_1a_a_apply r shapeCasts_S1x192_S192 i).trans (hr i)

/-- Two neighbouring layers' offsets: the later matrix by the earlier offset, plus the later offset. -/
theorem pair_col {w : FVec Ideal S192x192 .bf16} {r s : Vec Ideal S1x192 .f32} (hw : IsMat w q.1)
    (hr : ∀ i, r (ix2 (0 : Fin 1) i) = ((p.2 i 0 : ℝ) : EReal)) (hs : ∀ i, s (ix2 (0 : Fin 1) i) = ((q.2 i 0 : ℝ) : EReal)) :
    IsMat (k0_pay29 (F := Ideal) w r s) (after q p).2 :=
  isMat_add (isMat_matmul (d := dot_S192x192_S192x1_S192x1_1_0_0_1_n_n) rfl none hw (isMat_col hr)) (isMat_col hs)

/-- A layer's matrix, loaded as a slab of one. -/
theorem leaf_mat {v : Vec Ideal S1x192x192 .f32} (hv : ∀ i j, v (ix3 (0 : Fin 1) i j) = ((p.1 i j : ℝ) : EReal)) :
    IsMat (k0_pay8 (F := Ideal) v) p.1 := fun i j =>
  (shapeCast_1ab_ab_apply v shapeCasts_S1x192x192_S192x192 i j).trans (hv i j)

end

/-! ## One block of pixels -/

/-- The body's last value: the matrix kept in the scratch applied to the channels of every pixel of the block, plus the
    kept offset. The low half of the matrix is zero. -/
theorem block_apply {x : Vec Ideal S1x192x32x224 .f32} {hi lo : Vec Ideal S192x192 .bf16} {c : Vec Ideal S192x1 .f32} {p : Aff}
    {X : Fin 192 → Fin 32 → Fin 224 → ℝ} (hx : ∀ k r w, x (ix4 (0 : Fin 1) k r w) = ((X k r w : ℝ) : EReal))
    (hhi : IsMat (φ := .bf16) hi p.1) (hlo : IsMat (φ := .bf16) lo 0) (hc : IsMat (φ := .f32) c p.2) (d : Fin 192) (r : Fin 32) (w : Fin 224) :
    k0_pay7 (F := Ideal) x hi lo c (ix4 (0 : Fin 1) d r w) = ((act p (fun k _ => X k r w) d 0 : ℝ) : EReal) := by
  let Y : Matrix (Fin 192) (Fin 7168) ℝ := fun k t => X k ⟨t.val / 224, by omega⟩ ⟨t.val % 224, by omega⟩
  have hY : IsMat (φ := .bf16) (shapeCast S192x7168 (truncf .bf16 x bitsLt_bf16_f32) shapeCasts_S1x192x32x224_S192x7168) Y :=
    fun k t => by
      rw [shapeCast_apply _ shapeCasts_S1x192x32x224_S192x7168 (ix2 k t)
        (ix4 (0 : Fin 1) k (⟨t.val / 224, by omega⟩ : Fin 32) (⟨t.val % 224, by omega⟩ : Fin 224)) (by
          rw [Shape.rowMajor_val_four, Shape.rowMajor_val_two]
          show ((0 * 192 + k.val) * 32 + t.val / 224) * 224 + t.val % 224 = k.val * 7168 + t.val
          omega)]
      exact hx _ _ _
  have h := isMat_add
    (isMat_matmul (d := dot_S192x192_S192x7168_S192x7168_1_0_0_1_n_n) rfl none hhi hY)
    (isMat_matmul (d := dot_S192x192_S192x7168_S192x7168_1_0_0_1_n_n) rfl none hlo hY)
  rw [Matrix.zero_mul, add_zero] at h
  have hb : IsMat (φ := .f32) (broadcastTo S192x7168 c broadcasts_S192x1_S192x7168) (fun i _ => p.2 i 0) := fun i t => by
    rw [broadcastTo_apply c broadcasts_S192x1_S192x7168 (ix2 i t) (ix2 i (0 : Fin 1)) (fun a => by
      match a with
      | ⟨0, _⟩ => rfl
      | ⟨1, _⟩ => rfl)]
    exact hc i 0
  have hs := isMat_add h hb
  have ht : r.val * 224 + w.val < 7168 := by omega
  refine (shapeCast_apply _ shapeCasts_S192x7168_S1x192x32x224 (ix4 (0 : Fin 1) d r w) (ix2 d (⟨r.val * 224 + w.val, ht⟩ : Fin 7168)) (by
    rw [Shape.rowMajor_val_four, Shape.rowMajor_val_two]
    show d.val * 7168 + (r.val * 224 + w.val) = ((0 * 192 + d.val) * 32 + r.val) * 224 + w.val
    omega)).trans ((hs d ⟨r.val * 224 + w.val, ht⟩).trans ?_)
  have eY : ∀ k, Y k ⟨r.val * 224 + w.val, ht⟩ = X k r w := fun k =>
    congrArg₂ (X k) (Fin.ext (by show (r.val * 224 + w.val) / 224 = r.val; omega))
      (Fin.ext (by show (r.val * 224 + w.val) % 224 = w.val; omega))
  refine congrArg _ (congrArg (· + p.2 d 0) ?_)
  refine (Matrix.mul_apply (M := p.1) (N := Y)).trans ((Finset.sum_congr rfl fun k _ => ?_).trans Matrix.mul_apply.symm)
  exact congrArg (p.1 d k * ·) (eY k)

end Cert.Fold

end
-- ==== Proof.KernelValue.lean ====
/- What the kernel leaves in its result array, over the reals: the twenty layers applied to every pixel's channels. -/
module

public import proofs.«01_k».proof.Proof.Payloads
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Fold

open Idealize.ShloMosaic hiding ix1 ix2 ix3 ix4 eq_ix4
open Idealize.ShloMosaic.ValueIdx Idealize.ShloMosaic.TcCoe
open Cert.KernelIdeal Cert.KernelIdeal.Gen

/-! ## What the windows stage -/

variable (m : (ℓ : Loc nD τ sig) → Buf (Elt Ideal) ℓ)

/-- The block of every window at every point: thirty-two rows of the image, all of the weights, all of the offsets. -/
theorem idx : ∀ t : Fin cfg0.N, win0_0.index t = ![0, 0, t.val, 0] ∧ win0_1.index t = ![0, 0, 0] ∧ win0_2.index t = ![0, 0]
    ∧ win0_3.index t = ![0, 0, t.val, 0] :=
  (by decide +kernel : ∀ t : Fin grid0.N, _)

/-- The staged rows of the image. -/
theorem blk_x (c : Dev nD) (t : Fin cfg0.N) (k : Fin 192) (r : Fin 32) (w : Fin 224) (h : t.val * 32 + r.val < 224) :
    iblk m c 0 t (ix4 (0 : Fin 1) k r w) = m ((c : Thread nD τ).loc main_arg0) (ix4 (0 : Fin 1) k (⟨t.val * 32 + r.val, h⟩ : Fin 224) w) := by
  blk_ext [iblk, V, idx t]

/-- The staged weights. -/
theorem blk_W (c : Dev nD) (t : Fin cfg0.N) (l : Fin 20) (i j : Fin 192) :
    iblk m c 1 t (ix3 l i j) = m ((c : Thread nD τ).loc main_arg1) (ix3 l i j) := by
  blk_ext [iblk, V, idx t]

/-- The staged offsets. -/
theorem blk_b (c : Dev nD) (t : Fin cfg0.N) (l : Fin 20) (i : Fin 192) :
    iblk m c 2 t (ix2 l i) = m ((c : Thread nD τ).loc main_arg2) (ix2 l i) := by
  blk_ext [iblk, V, idx t]

/-! ## The fold at the first point -/

section

variable {L : ℕ → Aff} {W : Vec Ideal S20x192x192 .f32} {b : Vec Ideal S20x192 .f32}

/-- One layer's matrix, loaded out of the stack of weights. -/
theorem load_mat (hW : ∀ (l : Fin 20) i j, W (ix3 l i j) = (((L l.val).1 i j : ℝ) : EReal)) (l : Fin 20)
    (inb : ∀ a, (![l.val, 0, 0] : Fin 3 → ℕ) a + (![1, 192, 192] : Fin 3 → ℕ) a ≤ S20x192x192.size a) :
    IsMat (k0_pay8 (F := Ideal) (View.ld W (Rect.unit ![l.val, 0, 0] ![1, 192, 192] inb))) (L l.val).1 :=
  leaf_mat fun i j => (View.ld_unit_apply_of W _ _ inb (ix3 (0 : Fin 1) i j) (ix3 l i j) (fun a => by
    match a with
    | ⟨0, _⟩ => rfl
    | ⟨1, _⟩ => exact (Nat.zero_add _).symm
    | ⟨2, _⟩ => exact (Nat.zero_add _).symm)).trans (hW l i j)

/-- One layer's offset, loaded out of the stack of offsets. -/
theorem load_row (hb : ∀ (l : Fin 20) i, b (ix2 l i) = (((L l.val).2 i 0 : ℝ) : EReal)) (l : Fin 20)
    (inb : ∀ a, (![l.val, 0] : Fin 2 → ℕ) a + (![1, 192] : Fin 2 → ℕ) a ≤ S20x192.size a) (i : Fin 192) :
    View.ld b (Rect.unit ![l.val, 0] ![1, 192] inb) (ix2 (0 : Fin 1) i) = (((L l.val).2 i 0 : ℝ) : EReal) :=
  (View.ld_unit_apply_of b _ _ inb (ix2 (0 : Fin 1) i) (ix2 l i) (fun a => by
    match a with
    | ⟨0, _⟩ => rfl
    | ⟨1, _⟩ => exact (Nat.zero_add _).symm)).trans (hb l i)

/-- Every layer's matrix lies inside the stack of weights. -/
theorem inb_mat : ∀ l : Fin 20, ∀ a, (![l.val, 0, 0] : Fin 3 → ℕ) a + (![1, 192, 192] : Fin 3 → ℕ) a ≤ S20x192x192.size a := by
  decide

/-- Every layer's offset lies inside the stack of offsets. -/
theorem inb_row : ∀ l : Fin 20, ∀ a, (![l.val, 0] : Fin 2 → ℕ) a + (![1, 192] : Fin 2 → ℕ) a ≤ S20x192.size a := by
  decide

end

variable {L : ℕ → Aff} (c : Dev nD)
  (hW : ∀ (l : Fin 20) i j, m ((c : Thread nD τ).loc main_arg1) (ix3 l i j) = (((L l.val).1 i j : ℝ) : EReal))
  (hb : ∀ (l : Fin 20) i, m ((c : Thread nD τ).loc main_arg2) (ix2 l i) = (((L l.val).2 i 0 : ℝ) : EReal))

include hW hb in
/-- After the first point the three scratches hold the tree's matrix, zero, and the tree's offset: the body's products,
    read level by level, are the pairs, the fours, the eights and the whole. -/
theorem first_point (t : Fin cfg0.N) (h0 : t.val % 7 = 0) :
    IsMat (φ := .bf16) (outsAt0 m c t.val t.isLt).2.1 (tree L).1 ∧ IsMat (φ := .bf16) (outsAt0 m c t.val t.isLt).2.2.1 0
      ∧ IsMat (φ := .f32) (outsAt0 m c t.val t.isLt).2.2.2 (tree L).2 := by
  have w := load_mat (W := iblk m c 1 t) (L := L) fun l i j => (blk_W m c t l i j).trans (hW l i j)
  have r := load_row (b := iblk m c 2 t) (L := L) fun l i => (blk_b m c t l i).trans (hb l i)
  have pM (k : Fin 10) := pair_mat (w ⟨2 * k.val, by omega⟩ (inb_mat _)) (w ⟨2 * k.val + 1, by omega⟩ (inb_mat _))
  have qM (k : Fin 5) := merge_mat (pM ⟨2 * k.val, by omega⟩) (pM ⟨2 * k.val + 1, by omega⟩)
  have oM (k : Fin 2) := merge_mat (qM ⟨2 * k.val, by omega⟩) (qM ⟨2 * k.val + 1, by omega⟩)
  have zM := merge_mat (merge_mat (oM 0) (oM 1)) (qM 4)
  have pC (k : Fin 10) := pair_col (w ⟨2 * k.val + 1, by omega⟩ (inb_mat _)) (r ⟨2 * k.val, by omega⟩ (inb_row _))
    (r ⟨2 * k.val + 1, by omega⟩ (inb_row _))
  have qC (k : Fin 5) := merge_col (pC ⟨2 * k.val, by omega⟩) (pM ⟨2 * k.val + 1, by omega⟩) (pC ⟨2 * k.val + 1, by omega⟩)
  have oC (k : Fin 2) := merge_col (qC ⟨2 * k.val, by omega⟩) (qM ⟨2 * k.val + 1, by omega⟩) (qC ⟨2 * k.val + 1, by omega⟩)
  have zC := merge_col (merge_col (oC 0) (oM 1) (oC 1)) (qM 4) (qC 4)
  rw [outsAt0_A m c t h0]
  dsimp only
  refine ⟨?_, ?_, ?_⟩
  · frame_out
    have y := isMat_truncf bitsLt_bf16_f32 zM
    rw [← shapeCast_self (truncf _ _ _) shapeCasts_S192x192_S192x192] at y
    exact y
  · frame_out
    have y := isMat_rest bitsLt_bf16_f32 bitsLt_bf16_f32 zM
    rw [← shapeCast_self (truncf _ _ _) shapeCasts_S192x192_S192x192] at y
    exact y
  · frame_out
    rw [← shapeCast_self (k0_pay50 _ _ _) shapeCasts_S192x1_S192x1] at zC
    exact zC

include hW hb in
/-- After every point the three scratches hold that: the later points leave them. -/
theorem kept : ∀ (n : ℕ) (hn : n < cfg0.N), IsMat (φ := .bf16) (outsAt0 m c n hn).2.1 (tree L).1
    ∧ IsMat (φ := .bf16) (outsAt0 m c n hn).2.2.1 0 ∧ IsMat (φ := .f32) (outsAt0 m c n hn).2.2.2 (tree L).2
  | 0, hn => first_point m c hW hb ⟨0, hn⟩ rfl
  | n + 1, hn => by
    have ih := kept n (by omega)
    have hN : cfg0.N = 7 := by decide
    rw [outsAt0_B m c ⟨n + 1, hn⟩ (by show ¬ (n + 1) % 7 = 0; omega)]
    exact ih

/-! ## Every block of the result -/

variable {X : Fin 192 → Fin 224 → Fin 224 → ℝ}
  (hX : ∀ k h w, m ((c : Thread nD τ).loc main_arg0) (ix4 (0 : Fin 1) k h w) = ((X k h w : ℝ) : EReal))

omit hW hb hX in
/-- At every point the block is the body's last value of the staged rows and of what the point leaves in the scratches. -/
theorem block_eq (t : Fin cfg0.N) : (outsAt0 m c t.val t.isLt).1 = k0_pay7 (F := Ideal) (iblk m c 0 t)
    (outsAt0 m c t.val t.isLt).2.1 (outsAt0 m c t.val t.isLt).2.2.1 (outsAt0 m c t.val t.isLt).2.2.2 := by
  by_cases h0 : t.val % 7 = 0
  · rw [outsAt0_A m c t h0]
    dsimp only
    frame_out
  · rw [outsAt0_B m c t h0]
    dsimp only
    frame_out
    simp only [read_unread_whole]
    rfl

include hW hb hX in
/-- The block a point leaves is the twenty layers at the block's pixels. -/
theorem point (t : Fin cfg0.N) (d : Fin 192) (r : Fin 32) (w : Fin 224) (h : t.val * 32 + r.val < 224) :
    (outsAt0 m c t.val t.isLt).1 (ix4 (0 : Fin 1) d r w) = ((image L X 20 d ⟨t.val * 32 + r.val, h⟩ w : ℝ) : EReal) := by
  have ht : t.val < 7 := t.isLt
  have hx (k : Fin 192) (r : Fin 32) (w : Fin 224) := (blk_x m c t k r w (by omega)).trans (hX k _ w)
  have s := kept m c hW hb t.val t.isLt
  rw [image, ← act_tree, block_eq]
  exact block_apply hx s.1 s.2.1 s.2.2 d r w

include hW hb hX in
/-- The kernel's result array holds the image after twenty layers. -/
theorem kernel_value : (dats m 0 c).arrAt 3 cfg0.N
    = fun j : S1x192x224x224.Idx => ((image L X 20 (j 1) (j 2) (j 3) : ℝ) : EReal) := by
  refine (dats m 0 c).arrAt_eq_of_covers 3 _ (by decide +kernel) fun t hf y => ?_
  have ht : t.val < 7 := t.isLt
  obtain ⟨a, d, r, w, rfl⟩ : ∃ (a : Fin 1) (d : Fin 192) (r : Fin 32) (w : Fin 224), y = ix4 a d r w := ⟨_, _, _, _, eq_ix4 y⟩
  obtain rfl : a = 0 := Subsingleton.elim _ _
  have hr : t.val * 32 + r.val < 224 := by omega
  have e : ((cfg0.win 3).blk t).view.emb (ix4 (0 : Fin 1) d r w) = ix4 (0 : Fin 1) d (⟨t.val * 32 + r.val, hr⟩ : Fin 224) w := by
    blk_ext [idx t]
  rw [e]
  blk_simp
  rw [after0_3]
  exact point m c hW hb hX t d r w hr

end Cert.Fold

end
-- ==== Proof.RefValue.lean ====
/- What the reference returns, over the reals: the twenty layers applied to every pixel's channels. -/
module

public import proofs.«01_k».proof.Proof.Affine
public import proofs.«01_k».proof.Proof.Gen.ReferenceIdeal.Run
public import Idealize.ShloMosaic.Lib.Pipeline.Value
public import Idealize.ShloMosaic.Lib.ValueLayout

@[expose] public section

set_option maxRecDepth 16384

noncomputable section

namespace Cert.Fold

open Idealize.ShloMosaic
open Idealize.ShloMosaic.ValueIdx
open Cert.ReferenceIdeal Cert.ReferenceIdeal.Gen Cert.ReferenceIdeal.Value

/-- Every entry of the image is the given real. -/
def IsImg (v : FVec Ideal S1x192x224x224 .f32) (f : Fin 192 → Fin 224 → Fin 224 → ℝ) : Prop :=
  ∀ k h w, v (ix4 (0 : Fin 1) k h w) = ((f k h w : ℝ) : EReal)

/-- The dimension numbers of one layer: the weights by the channels of the image. -/
abbrev chan := dot_S192x192_S1x192x224x224_S192x1x224x224_1_1_0_023_n_n

/-- The product over the channels at an output channel and a pixel is the sum over the input channels. -/
theorem dot_apply (v : FVec Ideal S192x192 .f32) (x : FVec Ideal S1x192x224x224 .f32) (d : Fin 192) (h w : Fin 224) :
    Host.dotGeneral chan none v x (ix4 d (0 : Fin 1) h w) = ∑ k : Fin 192, v (ix2 d k) * x (ix4 (0 : Fin 1) k h w) := by
  refine (Ideal.dotGeneral_apply chan none _ v x _).trans ?_
  rw [← Equiv.sum_comp (contrEquiv1 chan 192 rfl rfl).symm]
  refine Finset.sum_congr rfl fun k _ => ?_
  have hk := contrEquiv1_symm_val chan 192 rfl rfl k
  have el : chan.lhsIdx (ix4 d (0 : Fin 1) h w) ((contrEquiv1 chan 192 rfl rfl).symm k) = ix2 d k := by
    funext a; apply Fin.ext
    match a with
    | ⟨0, _⟩ => rfl
    | ⟨1, _⟩ => exact hk
  have er : chan.rhsIdx (ix4 d (0 : Fin 1) h w) ((contrEquiv1 chan 192 rfl rfl).symm k) = ix4 (0 : Fin 1) k h w := by
    funext a; apply Fin.ext
    match a with
    | ⟨0, _⟩ => rfl
    | ⟨1, _⟩ => exact hk
    | ⟨2, _⟩ => rfl
    | ⟨3, _⟩ => rfl
  rw [el, er]

variable {L : ℕ → Aff} {X : Fin 192 → Fin 224 → Fin 224 → ℝ} {W : FVec Ideal S20x192x192 .f32} {b : FVec Ideal S20x192 .f32}

/-- One layer's matrix, sliced out of the stack of weights. -/
theorem slice_mat (hW : ∀ (l : Fin 20) i j, W (ix3 l i j) = (((L l.val).1 i j : ℝ) : EReal)) (l : Fin 20)
    (hs : S20x192x192.Slices ![l.val, 0, 0] S1x192x192) (d k : Fin 192) :
    shapeCast S192x192 (extractStridedSlice S1x192x192 ![l.val, 0, 0] W hs) shapeCasts_S1x192x192_S192x192 (ix2 d k)
      = (((L l.val).1 d k : ℝ) : EReal) := by
  refine (shapeCast_1ab_ab_apply _ shapeCasts_S1x192x192_S192x192 d k).trans ((extractStridedSlice_apply _ W hs _ (ix3 l d k) fun a => ?_).trans (hW l d k))
  match a with
  | ⟨0, _⟩ => rfl
  | ⟨1, _⟩ => exact (Nat.zero_add _).symm
  | ⟨2, _⟩ => exact (Nat.zero_add _).symm

/-- One layer's offset, sliced out of the stack of offsets and spread over the image. -/
theorem slice_row (hb : ∀ (l : Fin 20) i, b (ix2 l i) = (((L l.val).2 i 0 : ℝ) : EReal)) (l : Fin 20)
    (hs : S20x192.Slices ![l.val, 0] S1x192) (d : Fin 192) (h w : Fin 224) :
    broadcastInDim S1x192x224x224 ![0, 1, 2, 3] bcast_S1x192x1x1_S1x192x224x224_0_1_2_3 (broadcastInDim S1x192x1x1 ![1] bcast_S192_S1x192x1x1_1
      (shapeCast S192 (extractStridedSlice S1x192 ![l.val, 0] b hs) shapeCasts_S1x192_S192)) (ix4 (0 : Fin 1) d h w)
      = (((L l.val).2 d 0 : ℝ) : EReal) := by
  rw [broadcastInDim_apply _ _ _ _ (ix4 (0 : Fin 1) d (0 : Fin 1) (0 : Fin 1)) (fun a => by
      match a with
      | ⟨0, _⟩ => rfl
      | ⟨1, _⟩ => rfl
      | ⟨2, _⟩ => rfl
      | ⟨3, _⟩ => rfl),
    broadcastInDim_apply _ _ _ _ (ix1 d) (fun a => by
      match a with
      | ⟨0, _⟩ => rfl)]
  refine (shapeCast_1a_a_apply _ shapeCasts_S1x192_S192 d).trans ((extractStridedSlice_apply _ b hs _ (ix2 l d) fun a => ?_).trans (hb l d))
  match a with
  | ⟨0, _⟩ => rfl
  | ⟨1, _⟩ => exact (Nat.zero_add _).symm

/-- One layer of the reference takes the image after `l` layers to the image after `l + 1`. -/
theorem layer (hW : ∀ (l : Fin 20) i j, W (ix3 l i j) = (((L l.val).1 i j : ℝ) : EReal))
    (hb : ∀ (l : Fin 20) i, b (ix2 l i) = (((L l.val).2 i 0 : ℝ) : EReal)) (l : Fin 20)
    (hs : S20x192x192.Slices ![l.val, 0, 0] S1x192x192) (hs' : S20x192.Slices ![l.val, 0] S1x192)
    {x : FVec Ideal S1x192x224x224 .f32} (hx : IsImg x (image L X l.val)) :
    IsImg (addf (transpose S1x192x224x224 [1, 0, 2, 3] (Host.dotGeneral chan none
        (shapeCast S192x192 (extractStridedSlice S1x192x192 ![l.val, 0, 0] W hs) shapeCasts_S1x192x192_S192x192) x)
        transposes_S192x1x224x224_S1x192x224x224_1_0_2_3)
      (broadcastInDim S1x192x224x224 ![0, 1, 2, 3] bcast_S1x192x1x1_S1x192x224x224_0_1_2_3 (broadcastInDim S1x192x1x1 ![1] bcast_S192_S1x192x1x1_1
        (shapeCast S192 (extractStridedSlice S1x192 ![l.val, 0] b hs') shapeCasts_S1x192_S192))))
      (image L X (l.val + 1)) := fun d h w => by
  rw [addf_apply, slice_row hb, transpose_apply _ _ _ _ (ix4 d (0 : Fin 1) h w) (fun a => by
      match a with
      | ⟨0, _⟩ => rfl
      | ⟨1, _⟩ => rfl
      | ⟨2, _⟩ => rfl
      | ⟨3, _⟩ => rfl), dot_apply]
  have e : image L X (l.val + 1) d h w = (∑ k : Fin 192, (L l.val).1 d k * image L X l.val k h w) + (L l.val).2 d 0 := rfl
  rw [e, EReal.coe_add, coe_sum]
  refine congrArg (· + _) (Finset.sum_congr rfl fun k _ => ?_)
  rw [slice_mat hW, hx k h w, EReal.coe_mul]

open StableHlo in
/-- All twenty layers of the reference, from the image they start at. -/
theorem layers (V : Valuation τ sig (Elt Ideal)) (hx : IsImg (V (Proc.devRef .tc main_arg0)) X)
    (hW : ∀ (l : Fin 20) i j, V (Proc.devRef .tc main_arg1) (ix3 l i j) = (((L l.val).1 i j : ℝ) : EReal))
    (hb : ∀ (l : Fin 20) i, V (Proc.devRef .tc main_arg2) (ix2 l i) = (((L l.val).2 i 0 : ℝ) : EReal)) :
    IsImg (res_main_v180 V) (image L X 20) := by
  have s (n : ℕ) (hn : n < 20) (hs : S20x192x192.Slices ![n, 0, 0] S1x192x192) (hs' : S20x192.Slices ![n, 0] S1x192)
    {x : FVec Ideal S1x192x224x224 .f32} (h : IsImg x (image L X n)) := layer hW hb ⟨n, hn⟩ hs hs' h
  have h0 : IsImg (V (Proc.devRef .tc main_arg0)) (image L X 0) := hx
  unfold res_main_v180 res_main_v120 res_main_v58
  iterate 20 refine s _ (by decide) _ _ ?_
  exact h0

end Cert.Fold

end
-- ==== Proof.Finite.lean ====
/- The precondition, read at an entry: the image, the first branch's weights and its offsets are reals. -/
module

public import proofs.«01_k».proof.Proof.Gen.Pre_finite
public import Idealize.ShloMosaic.PureOps.Ideal.Laws
public import Idealize.ShloMosaic.Lib.ReduceAll
public import Idealize.ShloMosaic.Lib.Affine

@[expose] public section

set_option maxRecDepth 16384

noncomputable section

namespace Cert.Fold

open Idealize.ShloMosaic

/-- An extended real whose absolute value is below infinity is a real. -/
theorem real_of_lt {x : Ideal .f32} (h : FloatOps.cmpf (F := Ideal) .olt (FloatOps.hostAbsf x) (FloatOps.ofBits .f32 0x7F800000#32) = 1#1) :
    x = ((EReal.toReal x : ℝ) : EReal) := by
  have htop : Ideal.ofBits .f32 0x7F800000#32 = (⊤ : EReal) := by simp [Ideal.ofBits, Ideal.ieee]
  have hlt : max (x : EReal) (-x) < ⊤ := by
    by_contra hn
    have h' : Ideal.cmp .olt (max (x : EReal) (-x)) (Ideal.ofBits .f32 0x7F800000#32) = 1#1 := h
    rw [htop] at h'
    simp [Ideal.cmp, hn] at h'
  refine (EReal.coe_toReal ?_ ?_).symm
  · rintro rfl
    simp at hlt
  · rintro rfl
    simp at hlt

/-- The precondition has one entry. -/
instance : Subsingleton Cert.Pre_finite.S_.Idx := ⟨fun a b => funext fun i => i.elim0⟩

/-- Under the precondition every entry of the three arrays the result depends on is a real. -/
theorem finite_reals {x W b W' b'} (h : Cert.Pre_finite.fn (F := Ideal) x W b W' b' = fun _ => 1#1) :
    (∀ i, x i = ((EReal.toReal (x i) : ℝ) : EReal)) ∧ (∀ i, W i = ((EReal.toReal (W i) : ℝ) : EReal))
      ∧ ∀ i, b i = ((EReal.toReal (b i) : ℝ) : EReal) := by
  have e := congrFun h (fun i => i.elim0)
  obtain ⟨e, hb⟩ := IntOp.andi_eq_one.1 e
  obtain ⟨hx, hW⟩ := IntOp.andi_eq_one.1 e
  exact ⟨fun i => real_of_lt (Host.reduce_andi_all _ _ _ _ _ hx i), fun i => real_of_lt (Host.reduce_andi_all _ _ _ _ _ hW i),
    fun i => real_of_lt (Host.reduce_andi_all _ _ _ _ _ hb i)⟩

end Cert.Fold

end
-- ==== Proof.lean ====
module

public import proofs.«01_k».proof.Defs
public import proofs.«01_k».proof.Proof.Gen.Kernel.Frame
public import proofs.«01_k».proof.Proof.Gen.Pre_finite
public import proofs.«01_k».proof.Proof.KernelValue
public import proofs.«01_k».proof.Proof.RefValue
public import proofs.«01_k».proof.Proof.Finite
public import Idealize.ShloMosaic.Adequacy
public import Idealize.ShloMosaic.Init
public import Idealize.ShloMosaic.Lib.Quiescent

@[expose] public section

set_option maxRecDepth 16384

noncomputable section

namespace Cert.Proof

open Idealize.ShloMosaic hiding ix1 ix2 ix3 ix4 eq_ix4
open Idealize.ShloMosaic.ValueIdx Idealize.SL.Sem
open Cert.Fold

/-- The layers held in a stack of weights and a stack of offsets, read as reals. -/
def layersOf (W : FVec Ideal ⟨3, ![20, 192, 192]⟩ .f32) (b : FVec Ideal ⟨2, ![20, 192]⟩ .f32) (l : ℕ) : Aff :=
  (fun i j => EReal.toReal (W (ix3 (Fin.ofNat 20 l) i j)), fun i _ => EReal.toReal (b (ix2 (Fin.ofNat 20 l) i)))

/-- The image held in an array, read as reals. -/
def imageOf (x : FVec Ideal ⟨4, ![1, 192, 224, 224]⟩ .f32) (k : Fin 192) (h w : Fin 224) : ℝ :=
  EReal.toReal (x (ix4 (0 : Fin 1) k h w))

/-- What both programs return: the image after the twenty layers. -/
def result (x : FVec Ideal ⟨4, ![1, 192, 224, 224]⟩ .f32) (W : FVec Ideal ⟨3, ![20, 192, 192]⟩ .f32)
    (b : FVec Ideal ⟨2, ![20, 192]⟩ .f32) : FVec Ideal ⟨4, ![1, 192, 224, 224]⟩ .f32 :=
  fun j => ((image (layersOf W b) (imageOf x) 20 (j 1) (j 2) (j 3) : ℝ) : EReal)

/-- A stack of real weights holds its layers' matrices. -/
theorem holds_mat {W : FVec Ideal ⟨3, ![20, 192, 192]⟩ .f32} (b : FVec Ideal ⟨2, ![20, 192]⟩ .f32)
    (h : ∀ i, W i = ((EReal.toReal (W i) : ℝ) : EReal)) (l : Fin 20) (i j : Fin 192) :
    W (ix3 l i j) = (((layersOf W b l.val).1 i j : ℝ) : EReal) := by
  have e : Fin.ofNat 20 l.val = l := Fin.ext (Nat.mod_eq_of_lt l.isLt)
  refine (h _).trans ?_
  simp only [layersOf, e]

/-- A stack of real offsets holds its layers' columns. -/
theorem holds_row (W : FVec Ideal ⟨3, ![20, 192, 192]⟩ .f32) {b : FVec Ideal ⟨2, ![20, 192]⟩ .f32}
    (h : ∀ i, b i = ((EReal.toReal (b i) : ℝ) : EReal)) (l : Fin 20) (i : Fin 192) :
    b (ix2 l i) = (((layersOf W b l.val).2 i 0 : ℝ) : EReal) := by
  have e : Fin.ofNat 20 l.val = l := Fin.ext (Nat.mod_eq_of_lt l.isLt)
  refine (h _).trans ?_
  simp only [layersOf, e]

/-- The reference over extended reals runs, keeps its arguments and ends with every counter at zero. -/
theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel and the reference, over extended reals, return the same array. -/
theorem algebraic : algebraic_KernelIdeal_ReferenceIdeal_pre_finite := by
  intro m ρ m' ρ' hpre hagree
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun _ h c => ⟨?_, (h c).2⟩) (Cert.KernelIdeal.Value.run_blocks (F := Ideal) m ρ)
    obtain ⟨hx, hW, hb⟩ := finite_reals (hpre c)
    exact (h c).1.trans (kernel_value m c (holds_mat _ hW) (holds_row _ hb) (fun k h w => hx _))
  · refine (θ_run Cert.ReferenceIdeal.defs _ _).mono (fun _ h c => ⟨?_, (h c).2⟩) (Cert.ReferenceIdeal.Value.run (F := Ideal) m' ρ')
    obtain ⟨hx, hW, hb⟩ := finite_reals (hpre c)
    obtain ⟨ax, aW, ab, _, _⟩ := hagree c
    refine (h c).1.trans (funext fun j => ?_)
    obtain ⟨a, d, y, w, rfl⟩ : ∃ (a : Fin 1) (d : Fin 192) (y w : Fin 224), j = ix4 a d y w := ⟨_, _, _, _, eq_ix4 j⟩
    obtain rfl : a = 0 := Subsingleton.elim _ _
    refine (concatenate_pair_apply_left 0 _ _ _ _ rfl (ix4 (0 : Fin 1) d y w) (fun _ => rfl)).trans ?_
    beta_reduce
    rw [← ax] at hx ⊢
    rw [← aW] at hW ⊢
    rw [← ab] at hb ⊢
    exact layers (StableHlo.launchContents m' c) (fun k h w => hx _) (holds_mat _ hW) (holds_row _ hb) d y w

/-- All the claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_ReferenceIdeal, fun m ρ _ => frame_ReferenceIdeal m ρ trivial, (trivial : preserves_Kernel_KernelIdeal), algebraic⟩

end Cert.Proof

end
